-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200x1 : Shape := ⟨3, ![16384, 200, 1]⟩
abbrev S200x1x16384 : Shape := ⟨3, ![200, 1, 16384]⟩
abbrev S200x128x128 : Shape := ⟨3, ![200, 128, 128]⟩
abbrev S11x200x16384 : Shape := ⟨3, ![11, 200, 16384]⟩
abbrev S200x8x128 : Shape := ⟨3, ![200, 8, 128]⟩
abbrev S11x200x1024 : Shape := ⟨3, ![11, 200, 1024]⟩
abbrev S1x8x128 : Shape := ⟨3, ![1, 8, 128]⟩
abbrev S199x8x128 : Shape := ⟨3, ![199, 8, 128]⟩
abbrev S200x1024 : Shape := ⟨2, ![200, 1024]⟩
abbrev S1x200x1024 : Shape := ⟨3, ![1, 200, 1024]⟩
abbrev S16384x200x11 : Shape := ⟨3, ![16384, 200, 11]⟩

abbrev nBuf : Space → Nat
  | .hbm => 5
  | .vmem => 4
  | .smem => 0
  | _ => 0

abbrev bufTy : (tb : Table) → Fin (tcTables nBuf tb) → BufTy
  | .hbm, ⟨0, _⟩ => ⟨S16384x200x1, .f32⟩
  | .hbm, ⟨1, _⟩ => ⟨S200x1x16384, .f32⟩
  | .hbm, ⟨2, _⟩ => ⟨S200x128x128, .f32⟩
  | .hbm, ⟨3, _⟩ => ⟨S11x200x16384, .f32⟩
  | .hbm, ⟨4, _⟩ => ⟨S16384x200x11, .f32⟩
  | .local _ .vmem, ⟨0, _⟩ => ⟨S200x8x128, .f32⟩
  | .local _ .vmem, ⟨1, _⟩ => ⟨S200x8x128, .f32⟩
  | .local _ .vmem, ⟨2, _⟩ => ⟨S11x200x1024, .f32⟩
  | .local _ .vmem, ⟨3, _⟩ => ⟨S11x200x1024, .f32⟩
  | _, _ => ⟨S16384x200x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S200x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S11x200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x200x1 : Shape := ⟨3, ![16384, 200, 1]⟩
abbrev S16384x199x1 : Shape := ⟨3, ![16384, 199, 1]⟩
abbrev S16384x1x1 : Shape := ⟨3, ![16384, 1, 1]⟩
abbrev S_ : Shape := ⟨0, ![]⟩
abbrev S16384x200 : Shape := ⟨2, ![16384, 200]⟩
abbrev S11 : Shape := ⟨1, ![11]⟩
abbrev S1x1x11 : Shape := ⟨3, ![1, 1, 11]⟩
abbrev S16384x200x11 : Shape := ⟨3, ![16384, 200, 11]⟩

abbrev nBuf : Space → Nat
  | .hbm => 37
  | .vmem => 0
  | .smem => 0
  | _ => 0

abbrev bufTy : (tb : Table) → Fin (tcTables nBuf tb) → BufTy
  | .hbm, ⟨0, _⟩ => ⟨S16384x200x1, .f32⟩
  | .hbm, ⟨1, _⟩ => ⟨S16384x199x1, .f32⟩
  | .hbm, ⟨2, _⟩ => ⟨S16384x199x1, .f32⟩
  | .hbm, ⟨3, _⟩ => ⟨S16384x199x1, .f32⟩
  | .hbm, ⟨4, _⟩ => ⟨S16384x1x1, .f32⟩
  | .hbm, ⟨5, _⟩ => ⟨S_, .f32⟩
  | .hbm, ⟨6, _⟩ => ⟨S16384x1x1, .f32⟩
  | .hbm, ⟨7, _⟩ => ⟨S16384x200x1, .f32⟩
  | .hbm, ⟨8, _⟩ => ⟨S16384x200x1, .f32⟩
  | .hbm, ⟨9, _⟩ => ⟨S_, .f32⟩
  | .hbm, ⟨10, _⟩ => ⟨S16384x200x1, .f32⟩
  | .hbm, ⟨11, _⟩ => ⟨S_, .f32⟩
  | .hbm, ⟨12, _⟩ => ⟨S16384x200x1, .f32⟩
  | .hbm, ⟨13, _⟩ => ⟨S16384x200x1, .f32⟩
  | .hbm, ⟨14, _⟩ => ⟨S16384x200x1, .f32⟩
  | .hbm, ⟨15, _⟩ => ⟨S16384x200x1, .f32⟩
  | .hbm, ⟨16, _⟩ => ⟨S16384x200x1, .i1⟩
  | .hbm, ⟨17, _⟩ => ⟨S_, .f32⟩
  | .hbm, ⟨18, _⟩ => ⟨S16384x200x1, .f32⟩
  | .hbm, ⟨19, _⟩ => ⟨S16384x200x1, .f32⟩
  | .hbm, ⟨20, _⟩ => ⟨S16384x200x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x200x1, .f32⟩
  | .hbm, ⟨25, _⟩ => ⟨S16384x200x1, .f32⟩
  | .hbm, ⟨26, _⟩ => ⟨S_, .f32⟩
  | .hbm, ⟨27, _⟩ => ⟨S16384x200x1, .f32⟩
  | .hbm, ⟨28, _⟩ => ⟨S16384x200x1, .f32⟩
  | .hbm, ⟨29, _⟩ => ⟨S16384x200, .f32⟩
  | .hbm, ⟨30, _⟩ => ⟨S11, .f32⟩
  | .hbm, ⟨31, _⟩ => ⟨S16384x200x1, .f32⟩
  | .hbm, ⟨32, _⟩ => ⟨S1x1x11, .f32⟩
  | .hbm, ⟨33, _⟩ => ⟨S16384x200x11, .f32⟩
  | .hbm, ⟨34, _⟩ => ⟨S16384x200x11, .f32⟩
  | .hbm, ⟨35, _⟩ => ⟨S16384x200x11, .i1⟩
  | .hbm, ⟨36, _⟩ => ⟨S16384x200x11, .f32⟩
  | _, _ => ⟨S16384x200x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.OneHot.Bucket.lean ====
/-
  The mathematics of one element, over the extended reals: the bucket of an interval, which values it
  takes, and the two ways of asking whether it is a given class.
-/
module

public import Idealize.ShloMosaic.PureOps.Ideal

@[expose] public section

noncomputable section

namespace Cert.OneHot

open Idealize.ShloMosaic

/-- The bucket of an interval `x`: its logarithm to the base two, rounded down and clipped to `[0, 10]`. -/
def bucket (x : EReal) : EReal :=
  min ((10 : ℝ) : EReal) (max ((0 : ℝ) : EReal)
    (Ideal.liftRound Int.floor (Ideal.div (Ideal.log x) (Ideal.log ((2 : ℝ) : EReal)))))

/-- The indicator of the class `k`, a natural number, at a bucket `b`. -/
def isClass (b : EReal) (k : ℕ) : EReal := if b = ((k : ℝ) : EReal) then ((1 : ℝ) : EReal) else ((0 : ℝ) : EReal)

/-- Rounding down keeps `-∞`, `∞`, and takes a real number to its floor. -/
theorem floor_bot : Ideal.liftRound Int.floor ⊥ = ⊥ := rfl
theorem floor_top : Ideal.liftRound Int.floor ⊤ = ⊤ := rfl
theorem floor_coe (r : ℝ) : Ideal.liftRound Int.floor (r : EReal) = (((⌊r⌋ : ℤ) : ℝ) : EReal) := rfl

/-- Clipping `-∞` to `[0, 10]` gives zero. -/
theorem clip_bot : min ((10 : ℝ) : EReal) (max ((0 : ℝ) : EReal) ⊥) = ((0 : ℝ) : EReal) := by
  rw [max_eq_left bot_le, min_eq_right (EReal.coe_le_coe_iff.mpr (by norm_num))]

/-- Rounding down and clipping to `[0, 10]` gives one of the whole numbers from 0 to 10. -/
theorem clip_floor_nat (y : EReal) :
    ∃ n : ℕ, n ≤ 10 ∧ min ((10 : ℝ) : EReal) (max ((0 : ℝ) : EReal) (Ideal.liftRound Int.floor y)) = ((n : ℝ) : EReal) := by
  induction y using EReal.rec with
  | bot => exact ⟨0, by omega, by rw [floor_bot, clip_bot, Nat.cast_zero]⟩
  | top => exact ⟨10, le_rfl, by rw [floor_top, max_eq_right le_top, min_eq_left le_top]; norm_num⟩
  | coe r =>
    refine ⟨(min 10 (max 0 ⌊r⌋)).toNat, by omega, ?_⟩
    have h : (((min 10 (max 0 ⌊r⌋)).toNat : ℕ) : ℤ) = min 10 (max 0 ⌊r⌋) := Int.toNat_of_nonneg (by omega)
    have h' : (((min 10 (max 0 ⌊r⌋)).toNat : ℕ) : ℝ) = min 10 (max 0 (⌊r⌋ : ℝ)) := by
      rw [← Int.cast_natCast, h]; push_cast; rfl
    have mono : Monotone ((↑) : ℝ → EReal) := EReal.coe_strictMono.monotone
    rw [h', floor_coe, mono.map_min, mono.map_max]

/-- So a bucket is one of the whole numbers from 0 to 10. -/
theorem bucket_nat (x : EReal) : ∃ n : ℕ, n ≤ 10 ∧ bucket x = ((n : ℝ) : EReal) := clip_floor_nat _

/-- A whole number from 0 to 10, converted to a 32-bit integer, is that number's word. -/
theorem fptosi_nat (n : ℕ) (hn : n ≤ 10) : Ideal.fptosi 32 ((n : ℝ) : EReal) = BitVec.ofNat 32 n := by
  have h : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  unfold Ideal.fptosi
  rw [h, BitVec.ofInt_natCast]

/-- Comparing a bucket's integer word with the word of a class, and reading the bit as a float, is the
    indicator of the class. -/
theorem isClass_of_word (x : EReal) (k : ℕ) (hk : k ≤ 10) (w : BitVec 32)
    (hw : w = if Ideal.fptosi 32 (bucket x) = BitVec.ofNat 32 k then 1#32 else 0#32) :
    ((w.toInt : ℝ) : EReal) = isClass (bucket x) k := by
  obtain ⟨n, hn, hb⟩ := bucket_nat x
  rw [hb, fptosi_nat n hn] at hw
  rw [hb, isClass, hw]
  by_cases h : n = k
  · subst h; simp
  · rw [if_neg, if_neg]
    · simp
    · intro e; exact h (by exact_mod_cast e)
    · intro e
      have := congrArg BitVec.toNat e
      simp only [BitVec.toNat_ofNat] at this
      omega

/-- An interval that is the difference of a number and itself is in the bucket of zero, at the infinities too,
    where that difference is `-∞`. -/
theorem bucket_sub_self (x : EReal) : bucket (x - x) = bucket ((0 : ℝ) : EReal) := by
  have h2 : (0 : ℝ) < Real.log 2 := Real.log_pos one_lt_two
  have key : ∀ y : EReal, Ideal.log y = ⊥ → bucket y = ((0 : ℝ) : EReal) := by
    intro y hy
    have hd : Ideal.div (⊥ : EReal) (Ideal.log ((2 : ℝ) : EReal)) = ⊥ := by
      rw [Ideal.log_coe, if_neg (by norm_num), Ideal.div, if_neg (by exact_mod_cast h2.ne'), ← EReal.coe_inv]
      exact EReal.bot_mul_coe_of_pos (inv_pos.mpr h2)
    rw [bucket, hy, hd, floor_bot, clip_bot]
  have h0 : Ideal.log ((0 : ℝ) : EReal) = ⊥ := by rw [Ideal.log_coe, if_pos le_rfl]
  rw [key _ h0]
  refine key _ ?_
  induction x using EReal.rec with
  | bot => rfl
  | top => rfl
  | coe r => rw [← EReal.coe_sub, sub_self]; exact h0

end Cert.OneHot

end
-- ==== Proof.OneHot.Spec.lean ====
/-
  What both programs compute, as one function of the timestamps: the interval before each step, and the
  one-hot row of its bucket. With it, the two constants and the two comparisons that the programs write.
-/
module

public import proofs.«01_k».proof.Proof.OneHot.Bucket
public import Idealize.ShloMosaic.Lib.Pointwise

@[expose] public section

noncomputable section

namespace Cert.OneHot

open Idealize.ShloMosaic

/-- The timestamps: for each of 16384 sequences, 200 numbers. -/
abbrev Times : Type := (⟨3, ![16384, 200, 1]⟩ : Shape).Idx → EReal

/-- The interval before step `t` of sequence `b`: zero at the first step, then the difference of the step's
    timestamp and the one before. -/
def interval (x : Times) (b : Fin 16384) (t : Fin 200) : EReal :=
  if (t : ℕ) < 1 then ((0 : ℝ) : EReal)
  else x (ix3 b t 0) - x (ix3 b ⟨(t : ℕ) - 1, by omega⟩ 0)

/-- The result at sequence `b`, step `t` and class `k`: one where the interval's bucket is `k`, zero elsewhere. -/
def onehot (x : Times) (b : Fin 16384) (t : Fin 200) (k : Fin 11) : EReal :=
  isClass (bucket (interval x b t)) k

/-- The result array: sequence, step and class. -/
def target (x : Times) : (⟨3, ![16384, 200, 11]⟩ : Shape).Idx → EReal := fun i => onehot x (i 0) (i 1) (i 2)

/-- The float word of two denotes two, -/
theorem ofBits_two : Ideal.ofBits .f32 0x40000000#32 = ((2 : ℝ) : EReal) := by
  simp [Ideal.ofBits, Ideal.ieee, -EReal.coe_mul]; norm_num
/-- that of ten denotes ten, -/
theorem ofBits_ten : Ideal.ofBits .f32 0x41200000#32 = ((10 : ℝ) : EReal) := by
  simp [Ideal.ofBits, Ideal.ieee, -EReal.coe_mul]; norm_num
/-- that of zero denotes zero. -/
theorem ofBits_zero : Ideal.ofBits .f32 0x00000000#32 = ((0 : ℝ) : EReal) := by
  simp [Ideal.ofBits, Ideal.ieee]

/-- A class's bit read as a float after an integer comparison: the word of the comparison, widened and read as a
    signed integer. -/
theorem isClass_of_cmpi (x : EReal) (k : ℕ) (hk : k ≤ 10) :
    (((BitVec.setWidth 32 (IntOp.cmpi .eq (Ideal.fptosi 32 (bucket x)) (BitVec.ofNat 32 k))).toInt : ℝ) : EReal)
      = isClass (bucket x) k := by
  refine isClass_of_word x k hk _ ?_
  by_cases h : Ideal.fptosi 32 (bucket x) = BitVec.ofNat 32 k
  · rw [if_pos h, h]; simp [IntOp.cmpi]
  · rw [if_neg h, IntOp.cmpi, beq_eq_false_iff_ne.mpr h]; rfl

/-- A class's bit read as a float after a float comparison with the class's number. -/
theorem isClass_of_oeq (b : EReal) (k : ℕ) (hk : k ≤ 10) :
    (((Ideal.cmp .oeq b ((((BitVec.ofNat 32 k).toInt : ℤ) : ℝ) : EReal)).toNat : ℝ) : EReal) = isClass b k := by
  have e : (BitVec.ofNat 32 k).toInt = (k : ℤ) := by
    interval_cases k <;> rfl
  rw [e, Int.cast_natCast, isClass]
  by_cases h : b = ((k : ℝ) : EReal)
  · rw [if_pos h, h, Ideal.cmp, decide_eq_true rfl]; simp
  · rw [if_neg h, Ideal.cmp, decide_eq_false h]; simp

end Cert.OneHot

end
-- ==== Proof.OneHot.Block.lean ====
/-
  What one grid point computes: from a block of 200 steps by 1024 sequences (held as 8 rows of 128 lanes), the
  block's eleven one-hot planes.
-/
module

public import proofs.«01_k».proof.Proof.OneHot.Spec
public import proofs.«01_k».proof.Proof.Gen.KernelIdeal.Frame
public import Idealize.ShloMosaic.Lib.Pipeline.ValueKit

@[expose] public section

set_option maxRecDepth 16384

noncomputable section

namespace Cert.OneHot

open Idealize.ShloMosaic Idealize.ShloMosaic.TcCoe Idealize.SL.Sem
open Cert.KernelIdeal Cert.KernelIdeal.Gen

/-- The difference that the body takes at step `t` and lane `l` of the block `X`: the step's timestamp less the
    one before, and at the first step less itself. -/
def blockDiff (X : Vec Ideal S200x8x128 .f32) (t : Fin 200) (l : Fin 1024) : EReal :=
  X (ix3 t ⟨(l : ℕ) / 128, by omega⟩ ⟨(l : ℕ) % 128, by omega⟩)
    - if (t : ℕ) < 1 then X (ix3 t ⟨(l : ℕ) / 128, by omega⟩ ⟨(l : ℕ) % 128, by omega⟩)
      else X (ix3 ⟨(t : ℕ) - 1, by omega⟩ ⟨(l : ℕ) / 128, by omega⟩ ⟨(l : ℕ) % 128, by omega⟩)

/-- The body's integer buckets are the buckets of those differences. -/
theorem buckets_apply (X : Vec Ideal S200x8x128 .f32) (t : Fin 200) (l : Fin 1024) :
    k0_pay5 X (ix2 t l) = Ideal.fptosi 32 (bucket (blockDiff X t l)) := by
  pointwise [k0_pay5]
  simp only [ofBits_two, ofBits_ten, ne_eq, not_true_eq_false, if_false]
  rfl

/-- Where lane `l` of the block holds the timestamps of sequence `b`, the difference falls in the interval's
    bucket: at the first step the body subtracts a timestamp from itself, whose bucket is that of zero. -/
theorem bucket_blockDiff (X : Vec Ideal S200x8x128 .f32) (x : Times) (b : Fin 16384) (l : Fin 1024)
    (h : ∀ s : Fin 200, X (ix3 s ⟨(l : ℕ) / 128, by omega⟩ ⟨(l : ℕ) % 128, by omega⟩) = x (ix3 b s 0))
    (t : Fin 200) : bucket (blockDiff X t l) = bucket (interval x b t) := by
  unfold blockDiff interval
  by_cases ht : (t : ℕ) < 1
  · rw [if_pos ht, if_pos ht, bucket_sub_self]
  · rw [if_neg ht, if_neg ht, h, h]

/-- Reading a whole block through the rectangle that covers it is reading the block. -/
theorem load_whole (X : Vec Ideal S200x8x128 .f32) : View.ld X r0_0 = X := by
  rw [View.ld_unit_lit]
  decide

/-- One plane of the body: the buckets `v` compared with the word of the class `k`, the bit widened and read as a
    float. Each of the body's eleven stores writes this, for its own `k`. -/
def plane (k : ℕ) (v : IVec S200x1024 32) : FVec Ideal S1x200x1024 .f32 :=
  shapeCast S1x200x1024
    (sitofp .f32 (extui 32 (cmpi .eq v (broadcast S200x1024 (BitVec.ofNat 32 k))) natLt_1_32) : FVec Ideal S200x1024 .f32)
    shapeCasts_S200x1024_S1x200x1024

/-- A plane at a step and a lane: the indicator of the class at the bucket of the difference there. -/
theorem plane_apply (X : Vec Ideal S200x8x128 .f32) (k : ℕ) (hk : k ≤ 10) (x : S1x200x1024.Idx) :
    plane k (k0_pay5 X) x = isClass (bucket (blockDiff X (x 1) (x 2))) k := by
  pointwise [plane]
  refine Eq.trans ?_ (isClass_of_cmpi (blockDiff X (x 1) (x 2)) k hk)
  rw [← buckets_apply X (x 1) (x 2)]
  rfl

/-- What the body leaves in the output's buffer: at class `k`, step `t` and lane `l` the indicator of `k` at the
    bucket of the difference. -/
theorem out_apply (X : Vec Ideal S200x8x128 .f32) (y : S11x200x1024.Idx) :
    out0_1 X y = isClass (bucket (blockDiff X (y 1) (y 2))) (y 0 : ℕ) := by
  unfold_out out0_1
  rw [load_whole]
  canon_tiles x h
  all_goals
    (have e1 : y 1 = x 1 := Fin.ext h1
     have e2 : y 2 = x 2 := Fin.ext h2
     rw [e1, e2, h0, Nat.lt_one_iff.mp x0_lt]
     exact plane_apply X _ (by omega) x)

end Cert.OneHot

end
-- ==== Proof.OneHot.KernelValue.lean ====
/-
  What the kernel's program leaves: the sixteen grid points' blocks make up one array of planes over the
  timestamps, and the program transposes it into its result.
-/
module

public import proofs.«01_k».proof.Proof.OneHot.Block
public import Idealize.ShloMosaic.Lib.Claim

@[expose] public section

set_option maxRecDepth 16384

noncomputable section

namespace Cert.OneHot

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The kernel's operand: the timestamps transposed to steps by sequences, the sequences folded to 128 rows of
    128 lanes. -/
theorem entry : V m c main_v1
    = shapeCast S200x128x128 (transpose S200x1x16384 [1, 2, 0] (m (c.tc.loc main_arg0))
        transposes_S16384x200x1_S200x1x16384_1_2_0) shapeCasts_S200x1x16384_S200x128x128 := by
  show StableHlo.after (List.flatten [hostOps0]) _ _ = _
  simp only [hostOps0, List.flatten_cons, List.flatten_nil, List.append_nil]
  after_results
  rfl

/-- The operand at step `t`, row `p` and lane `q` is the timestamp of sequence `128 p + q` at step `t`. -/
theorem entry_apply (t : Fin 200) (p q : Fin 128) :
    V m c main_v1 (ix3 t p q) = m (c.tc.loc main_arg0) (ix3 ⟨(p : ℕ) * 128 + (q : ℕ), by omega⟩ t 0) := by
  rw [entry]
  pointwise

/-- Grid point `t` reads the rows `8 t` to `8 t + 7`. -/
theorem index_in : ∀ t, win0_0.index t = ![0, (grid0.coords t 0).val, 0] := by decide +kernel

/-- Grid point `t` writes the sequences `1024 t` to `1024 t + 1023`. -/
theorem index_out : ∀ t, win0_1.index t = ![0, 0, (grid0.coords t 0).val] := by decide +kernel

/-- The row, lane and step at which grid point `t` reads element `(s, p, q)` of its block. -/
theorem emb_in (t : Fin cfg0.N) (s : Fin 200) (p : Fin 8) (q : Fin 128) (hp : (grid0.coords t 0).val * 8 + (p : ℕ) < 128) :
    (win0_0.blk t).view.emb (ix3 s p q) = ix3 s ⟨(grid0.coords t 0).val * 8 + (p : ℕ), hp⟩ q := by
  funext a
  apply Fin.ext
  fin_cases a <;> blk_simp [index_in] <;> rfl

/-- Lane `l` of grid point `t`'s input block holds the timestamps of sequence `1024 t + l`. -/
theorem block_apply (t : Fin cfg0.N) (l : Fin 1024) (hb : (grid0.coords t 0).val * 1024 + (l : ℕ) < 16384) (s : Fin 200) :
    iblk m c 0 t (ix3 s ⟨(l : ℕ) / 128, by omega⟩ ⟨(l : ℕ) % 128, by omega⟩)
      = m (c.tc.loc main_arg0) (ix3 ⟨(grid0.coords t 0).val * 1024 + (l : ℕ), hb⟩ s 0) := by
  unfold iblk
  blk_simp
  rw [emb_in t s _ _ (by show _ + (l : ℕ) / 128 < 128; omega), entry_apply]
  congr 2
  apply Fin.ext
  show ((grid0.coords t 0).val * 8 + (l : ℕ) / 128) * 128 + (l : ℕ) % 128 = (grid0.coords t 0).val * 1024 + (l : ℕ)
  omega

/-- The array of planes: class, step and sequence. -/
def planes (x : Times) : S11x200x16384.Idx → EReal := fun i => onehot x (i 2) (i 1) (i 0)

/-- Element `(k, s, l)` of grid point `t`'s output block sits at class `k`, step `s` and sequence `1024 t + l`. -/
theorem emb_out (t : Fin cfg0.N) (k : Fin 11) (s : Fin 200) (l : Fin 1024)
    (hb : (grid0.coords t 0).val * 1024 + (l : ℕ) < 16384) :
    (win0_1.blk t).view.emb (ix3 k s l) = ix3 k s ⟨(grid0.coords t 0).val * 1024 + (l : ℕ), hb⟩ := by
  funext a
  apply Fin.ext
  fin_cases a <;> blk_simp [index_out] <;> rfl

/-- The grid points' blocks make up the array of planes. -/
theorem arr_planes : (dats m 0 c).arrAt 1 cfg0.N = planes (m (c.tc.loc main_arg0)) := by
  refine (dats m 0 c).arrAt_eq_of_covers 1 _ (by decide +kernel) fun t hf y => ?_
  blk_simp
  rw [after0_1, out_apply]
  idx_vars y
  have hb : (grid0.coords t 0).val * 1024 + (y2 : ℕ) < 16384 := by
    have h16 : (grid0.coords t 0).val < 16 := (grid0.coords t 0).isLt
    omega
  refine Eq.trans ?_ (congrArg (planes (m (c.tc.loc main_arg0))) (emb_out t y0 y1 y2 hb)).symm
  exact congrArg (isClass · (y0 : ℕ)) (bucket_blockDiff _ _ _ y2 (block_apply m c t y2 hb) y1)

/-- The program's result is the one-hot array of its timestamps. -/
theorem kernel_result :
    Pipeline.afterTail₀ cfgs (dats m) 0 (V0 m) [hostOps1] c main_v3 = target (m (c.tc.loc main_arg0)) := by
  unfold Pipeline.afterTail₀
  simp only [hostOps1, List.flatten_cons, List.flatten_nil, List.append_nil]
  after_results
  funext i
  rw [show Pipeline.withArrays (cfgs 0).spec c (V0 m c) (fun w => (dats m 0 c).arrAt w (cfgs 0).N) (Proc.tc.devRef main_v2)
      = planes (m (c.tc.loc main_arg0)) from
    (Pipeline.withArrays_arr (cfgs 0).spec (by decide) c (V0 m c) (fun w => (dats m 0 c).arrAt w (cfgs 0).N) 1).trans
      (arr_planes m c)]
  pointwise [planes]
  rfl

end Cert.OneHot

end
-- ==== Proof.OneHot.ReferenceValue.lean ====
/-
  What the reference's program leaves: the one-hot array of its timestamps, the timestamps unchanged.
-/
module

public import proofs.«01_k».proof.Proof.OneHot.Spec
public import proofs.«01_k».proof.Proof.Gen.ReferenceIdeal.Run
public import Idealize.ShloMosaic.Lib.Claim

@[expose] public section

set_option maxRecDepth 16384

noncomputable section

namespace Cert.OneHot

open Idealize.ShloMosaic Idealize.ShloMosaic.TcCoe Idealize.SL.Sem
open Cert.ReferenceIdeal Cert.ReferenceIdeal.Gen

/-- The interval as the reference takes it: from two slices of the timestamps behind a first zero. -/
theorem interval_of_slices (x : Times) (b : Fin 16384) (t : Fin 200) :
    (if h : (t : ℕ) < 1 then (0 : EReal)
      else x (ix3 b ⟨1 + ((t : ℕ) - 1), by omega⟩ 0) - x (ix3 b ⟨(t : ℕ) - 1, by omega⟩ 0)) = interval x b t := by
  unfold interval
  by_cases ht : (t : ℕ) < 1
  · rw [dif_pos ht, if_pos ht, EReal.coe_zero]
  · have e : (⟨1 + ((t : ℕ) - 1), by omega⟩ : Fin 200) = t := Fin.ext (by show 1 + ((t : ℕ) - 1) = _; omega)
    rw [dif_neg ht, if_neg ht, e]

/-- Every execution of the reference ends with the one-hot array of its timestamps as its result and the
    timestamps unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = target (m ((c.tc : Thread nD τ).loc main_arg0))
        ∧ r.2.mem ((c.tc : Thread nD τ).loc main_arg0) = m ((c.tc : Thread nD τ).loc main_arg0) := by
  refine (θ_run defs _ _).mono (fun r h c => ⟨(h c).1.trans ?_, (h c).2⟩) (Cert.ReferenceIdeal.Value.run (F := Ideal) m ρ)
  funext i
  idx_vars i
  pointwise
  simp only [interval_of_slices, ne_eq, not_true_eq_false, if_false, ofBits_two]
  refine Eq.trans ?_ (isClass_of_oeq (bucket (interval (m (c.tc.loc main_arg0)) i0 i1)) i2 (by omega))
  rw [bucket, ← ofBits_ten, ← ofBits_zero]
  rfl

end Cert.OneHot

end
-- ==== Proof.lean ====
/-
  The certificate's claims put together: the kernel and the reference both end with the one-hot array of the
  timestamps (OneHot/KernelValue.lean, OneHot/ReferenceValue.lean), so their results are equal.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.OneHot.KernelValue
public import proofs.«01_k».proof.Proof.OneHot.ReferenceValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result is the reference's: both are the one-hot array of the same timestamps. -/
theorem algebraic : Cert.algebraic_KernelIdeal_ReferenceIdeal := by
  pair_intro
  · run_from Cert.KernelIdeal.Gen.run_main m g
    exact Cert.KernelIdeal.Gen.W_main_arg0 m _ c
  · run_from Cert.OneHot.reference_run m' g'
    exact (Cert.OneHot.kernel_result m c).symm

/-- The reference's frame: its run leaves the timestamps as they were, and it has no counters. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.OneHot.reference_run m ρ)

/-- All five claims: the three frames, the idealization and the equality of the results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  trivial,
  algebraic⟩

end Cert.Proof

end
